-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projection [hPre_finite_projection : Cert.Pre_finite_projection.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projection [hPre_finite_projection : Cert.Pre_finite_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_projection [hKernelIdeal : Cert.KernelIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_projection [hReferenceIdeal : Cert.ReferenceIdeal.Facts] [hPre_finite_projection : Cert.Pre_finite_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_projection [hKernelIdeal : Cert.KernelIdeal.Facts] [hReferenceIdeal : Cert.ReferenceIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_projection : Cert.Pre_finite_projection.Facts),
    quiescent_Kernel (hKernel := hKernel)
    ∧ quiescent_KernelIdeal (hKernelIdeal := hKernelIdeal)
    ∧ quiescent_KernelIdeal_pre_finite_projection (hKernelIdeal := hKernelIdeal) (hPre_finite_projection := hPre_finite_projection)
    ∧ quiescent_ReferenceIdeal (hReferenceIdeal := hReferenceIdeal)
    ∧ quiescent_ReferenceIdeal_pre_finite_projection (hReferenceIdeal := hReferenceIdeal) (hPre_finite_projection := hPre_finite_projection)
    ∧ preserves_Kernel_KernelIdeal
    ∧ algebraic_KernelIdeal_ReferenceIdeal_pre_finite_projection (hKernelIdeal := hKernelIdeal) (hReferenceIdeal := hReferenceIdeal) (hPre_finite_projection := hPre_finite_projection)
-- ==== Pre_finite_projection.lean ====
abbrev S2x2048x2048 : Shape := ⟨3, ![2, 2048, 2048]⟩
abbrev S2x2048 : Shape := ⟨2, ![2, 2048]⟩
abbrev S2048x256 : Shape := ⟨2, ![2048, 256]⟩
abbrev S256 : Shape := ⟨1, ![256]⟩
abbrev S4096x256 : Shape := ⟨2, ![4096, 256]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2x2048x2048 .f32) (main_arg1 : FVec F S2x2048 .f32) (main_arg2 : FVec F S2048x256 .f32) (main_arg3 : FVec F S256 .f32) (main_arg4 : FVec F S4096x256 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x256 .f32 := Host.absf main_arg2
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2x2048x2048 : Shape := ⟨3, ![2, 2048, 2048]⟩
abbrev S2x2048 : Shape := ⟨2, ![2, 2048]⟩
abbrev S2048x256 : Shape := ⟨2, ![2048, 256]⟩
abbrev S256 : Shape := ⟨1, ![256]⟩
abbrev S4096x256 : Shape := ⟨2, ![4096, 256]⟩
abbrev S4096x2048 : Shape := ⟨2, ![4096, 2048]⟩
abbrev S1x256 : Shape := ⟨2, ![1, 256]⟩
abbrev S3072x256 : Shape := ⟨2, ![3072, 256]⟩
abbrev S4096x1024 : Shape := ⟨2, ![4096, 1024]⟩
abbrev S512x2048 : Shape := ⟨2, ![512, 2048]⟩
abbrev S512x1024 : Shape := ⟨2, ![512, 1024]⟩
abbrev S3072 : Shape := ⟨1, ![3072]⟩
abbrev S3072x1 : Shape := ⟨2, ![3072, 1]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S2x2048x1024 : Shape := ⟨3, ![2, 2048, 1024]⟩

abbrev nBuf : Space → Nat
  | .hbm => 14
  | .vmem => 11
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .f32⟩
  | .hbm, ⟨2, _⟩ => ⟨S2048x256, .f32⟩
  | .hbm, ⟨3, _⟩ => ⟨S256, .f32⟩
  | .hbm, ⟨4, _⟩ => ⟨S4096x256, .f32⟩
  | .hbm, ⟨5, _⟩ => ⟨S4096x2048, .f32⟩
  | .hbm, ⟨6, _⟩ => ⟨S1x256, .f32⟩
  | .hbm, ⟨7, _⟩ => ⟨S3072x256, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .local _ .vmem, ⟨0, _⟩ => ⟨S512x2048, .f32⟩
  | .local _ .vmem, ⟨1, _⟩ => ⟨S512x2048, .f32⟩
  | .local _ .vmem, ⟨2, _⟩ => ⟨S2048x256, .f32⟩
  | .local _ .vmem, ⟨3, _⟩ => ⟨S1x256, .f32⟩
  | .local _ .vmem, ⟨4, _⟩ => ⟨S3072x256, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2048x2048 : Shape := ⟨3, ![2, 2048, 2048]⟩
abbrev S2x2048 : Shape := ⟨2, ![2, 2048]⟩
abbrev S2048x256 : Shape := ⟨2, ![2048, 256]⟩
abbrev S256 : Shape := ⟨1, ![256]⟩
abbrev S4096x256 : Shape := ⟨2, ![4096, 256]⟩
abbrev S2x2048x256 : Shape := ⟨3, ![2, 2048, 256]⟩
abbrev S1x1x256 : Shape := ⟨3, ![1, 1, 256]⟩
abbrev S_ : Shape := ⟨0, ![]⟩
abbrev S4096 : Shape := ⟨1, ![4096]⟩
abbrev S4096x1 : Shape := ⟨2, ![4096, 1]⟩
abbrev S2x2048x4096 : Shape := ⟨3, ![2, 2048, 4096]⟩
abbrev S2x2048x1024 : Shape := ⟨3, ![2, 2048, 1024]⟩
abbrev S2x2048x1 : Shape := ⟨3, ![2, 2048, 1]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .f32⟩
  | .hbm, ⟨2, _⟩ => ⟨S2048x256, .f32⟩
  | .hbm, ⟨3, _⟩ => ⟨S256, .f32⟩
  | .hbm, ⟨4, _⟩ => ⟨S4096x256, .f32⟩
  | .hbm, ⟨5, _⟩ => ⟨S2x2048x256, .f32⟩
  | .hbm, ⟨6, _⟩ => ⟨S1x1x256, .f32⟩
  | .hbm, ⟨7, _⟩ => ⟨S2x2048x256, .f32⟩
  | .hbm, ⟨8, _⟩ => ⟨S2x2048x256, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x256, .f32⟩
  | .hbm, ⟨18, _⟩ => ⟨S4096x256, .f32⟩
  | .hbm, ⟨19, _⟩ => ⟨S2x2048x4096, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S_, .f32⟩
  | .hbm, ⟨41, _⟩ => ⟨S2x2048, .f32⟩
  | .hbm, ⟨42, _⟩ => ⟨S2x2048, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048, .f32⟩
  | .hbm, ⟨49, _⟩ => ⟨S2x2048x1, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2048, .f32⟩
  | .hbm, ⟨54, _⟩ => ⟨S_, .f32⟩
  | .hbm, ⟨55, _⟩ => ⟨S2x2048, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S2x2048, .f32⟩
  | .hbm, ⟨63, _⟩ => ⟨S2x2048x1, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S_, .f32⟩
  | .hbm, ⟨69, _⟩ => ⟨S2x2048, .f32⟩
  | .hbm, ⟨70, _⟩ => ⟨S2x2048, .f32⟩
  | .hbm, ⟨71, _⟩ => ⟨S2x2048x1, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S_, .f32⟩
  | .hbm, ⟨76, _⟩ => ⟨S2x2048, .f32⟩
  | .hbm, ⟨77, _⟩ => ⟨S2x2048x1, .f32⟩
  | .hbm, ⟨78, _⟩ => ⟨S2x2048x1024, .f32⟩
  | .hbm, ⟨79, _⟩ => ⟨S2x2048x1024, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Proof.Softmax.lean ====
module

public import Idealize.ShloMosaic.PureOps.Ideal
public import Mathlib.Analysis.SpecialFunctions.Exp

/-! The row mathematics on the extended reals: the projection, the unit embeddings, the logits, and the two ways of
writing a softmax, with the conditions under which they agree. No program is mentioned here. -/

@[expose] public section
noncomputable section
open Idealize.ShloMosaic
namespace Cert.Row

/-- The least norm an embedding is divided by. -/
abbrev leastNorm : EReal := Ideal.ofBits .f32 730643660#32

/-- The running maximum's starting value. -/
abbrev maxStart : EReal := Ideal.ofBits .f32 4286578688#32

/-- Entry `d` of an embedding divided by its Euclidean norm, the norm taken at least `leastNorm`. -/
def unitEmb (e : Fin 256 → EReal) (d : Fin 256) : EReal :=
  Ideal.div (e d) (max (Ideal.sqrt (∑ k, e k * e k)) leastNorm)

/-- Entry `d` of the projection of one token: `x W + b`. -/
def proj (x : Fin 2048 → EReal) (W : Fin 2048 → Fin 256 → EReal) (b : Fin 256 → EReal) (d : Fin 256) : EReal :=
  ∑ k, x k * W k d + b d

/-- The logit of one token against one embedding. -/
def logit (x : Fin 2048 → EReal) (W : Fin 2048 → Fin 256 → EReal) (b : Fin 256 → EReal) (e : Fin 256 → EReal) : EReal :=
  ∑ d, proj x W b d * unitEmb e d

/-- The row maximum, as the reference takes it. -/
def rowMax {n : Nat} (l : Fin n → EReal) : EReal :=
  max maxStart (Finset.fold max maxStart l Finset.univ)

/-- The softmax with the row maximum subtracted first: the reference's. -/
def shifted {n : Nat} (l : Fin n → EReal) (j : Fin n) : EReal :=
  Ideal.div (Ideal.exp (l j - rowMax l)) (∑ k, Ideal.exp (l k - rowMax l))

/-- The softmax without a shift, by one reciprocal per row: the kernel's. -/
def plain {n : Nat} (l : Fin n → EReal) (j : Fin n) : EReal :=
  Ideal.exp (l j) * Ideal.div 1 (∑ k, Ideal.exp (l k))

/-- An extended real that is a real number. -/
def IsReal (x : EReal) : Prop := ∃ r : ℝ, x = (r : EReal)

/-- A sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is the same over the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- The running maximum starts at minus infinity. -/
theorem maxStart_eq : maxStart = ⊥ := by
  simp [maxStart, Ideal.ofBits, Ideal.ieee]

/-- The least norm is a positive real number. -/
theorem leastNorm_pos : ∃ r : ℝ, 0 < r ∧ leastNorm = (r : EReal) := by
  refine ⟨_, ?_, by simp [leastNorm, Ideal.ofBits, Ideal.ieee]; rfl⟩
  positivity

/-- The square of an extended real is not negative. -/
theorem sq_nonneg (x : EReal) : 0 ≤ x * x := by
  induction x using EReal.rec with
  | bot => simp
  | coe r => rw [← EReal.coe_mul]; exact_mod_cast mul_self_nonneg r
  | top => simp

/-- Only a real number has a real square. -/
theorem fin_of_sq {x : EReal} (h : x * x ≠ ⊤) : IsReal x := by
  induction x using EReal.rec with
  | bot => simp at h
  | coe r => exact ⟨r, rfl⟩
  | top => simp at h

/-- Every entry of a unit embedding is a real number, whatever the embedding: a row that holds an infinity has an
infinite norm, and a quotient by an infinite norm is zero. -/
theorem unitEmb_fin (e : Fin 256 → EReal) (d : Fin 256) : IsReal (unitEmb e d) := by
  obtain ⟨c, hc, hce⟩ := leastNorm_pos
  unfold unitEmb
  rw [hce]
  by_cases hS : (∑ k, e k * e k) = ⊤
  · rw [hS, Ideal.sqrt_top, max_eq_left le_top]
    exact ⟨0, by simp [Ideal.div]⟩
  · have he : ∀ k, IsReal (e k) := fun k => fin_of_sq fun hk => hS (top_le_iff.mp (hk ▸
      Finset.single_le_sum (f := fun k => e k * e k) (fun i _ => sq_nonneg (e i)) (Finset.mem_univ k)))
    choose g hg using he
    have hs : (∑ k, e k * e k) = ((∑ k, g k * g k : ℝ) : EReal) := by
      rw [← coe_sum]
      exact Finset.sum_congr rfl fun k _ => by rw [hg k, EReal.coe_mul]
    have h0 : 0 ≤ ∑ k, g k * g k := Finset.sum_nonneg fun k _ => mul_self_nonneg (g k)
    rw [hs, Ideal.sqrt_coe, if_neg (not_lt.mpr h0), hg d, ← EReal.coe_strictMono.monotone.map_max,
      Ideal.div_coe (ne_of_gt (lt_max_of_lt_right hc)), ← EReal.coe_mul]
    exact ⟨_, rfl⟩

/-- A logit is a real number once the token, the weights and the bias are. -/
theorem logit_fin {x : Fin 2048 → EReal} {W : Fin 2048 → Fin 256 → EReal} {b : Fin 256 → EReal} (hx : ∀ k, IsReal (x k))
    (hW : ∀ k d, IsReal (W k d)) (hb : ∀ d, IsReal (b d)) (e : Fin 256 → EReal) : IsReal (logit x W b e) :=
  IsReal.sum _ fun d => ((IsReal.sum _ fun k => (hx k).mul (hW k d)).add (hb d)).mul (unitEmb_fin e d)

/-- The maximum of a non-empty row of real numbers is a real number. -/
theorem rowMax_fin {n : Nat} (l : Fin n → EReal) (h : ∀ k, IsReal (l k)) (j : Fin n) : IsReal (rowMax l) := by
  have hle : l j ≤ rowMax l := le_max_of_le_right ((Finset.le_fold_max (l j)).mpr (Or.inr ⟨j, Finset.mem_univ j, le_rfl⟩))
  have hlt : rowMax l < ⊤ := by
    refine max_lt (by rw [maxStart_eq]; exact bot_lt_top) ((Finset.fold_max_lt ⊤).mpr ⟨by rw [maxStart_eq]; exact bot_lt_top, ?_⟩)
    intro k _
    obtain ⟨r, hr⟩ := h k
    rw [hr]
    exact EReal.coe_lt_top r
  obtain ⟨r, hr⟩ := h j
  have hbot : rowMax l ≠ ⊥ := fun hb => by
    rw [hb, hr] at hle
    exact absurd hle (not_le.mpr (EReal.bot_lt_coe r))
  exact ⟨(rowMax l).toReal, (EReal.coe_toReal hlt.ne hbot).symm⟩

/-- On a row of real numbers the softmax does not depend on the shift. -/
theorem plain_eq_shifted {n : Nat} (l : Fin n → EReal) (h : ∀ k, IsReal (l k)) (j : Fin n) : plain l j = shifted l j := by
  obtain ⟨M, hM⟩ := rowMax_fin l h j
  choose g hg using h
  have hA : (∑ k, Ideal.exp (l k)) = ((∑ k, Real.exp (g k) : ℝ) : EReal) := by
    rw [← coe_sum]
    exact Finset.sum_congr rfl fun k _ => by rw [hg k, Ideal.exp_coe]
  have hs : ∀ k, Ideal.exp (l k - rowMax l) = ((Real.exp (g k) * Real.exp (-M) : ℝ) : EReal) := fun k => by
    rw [hM, hg k, ← EReal.coe_sub, Ideal.exp_coe, sub_eq_add_neg, Real.exp_add]
  have hB : (∑ k, Ideal.exp (l k - rowMax l)) = (((∑ k, Real.exp (g k)) * Real.exp (-M) : ℝ) : EReal) := by
    rw [Finset.sum_mul, ← coe_sum]
    exact Finset.sum_congr rfl fun k _ => hs k
  have hpos : 0 < ∑ k, Real.exp (g k) := Finset.sum_pos (fun k _ => Real.exp_pos _) ⟨j, Finset.mem_univ j⟩
  have hm := Real.exp_pos (-M)
  unfold plain shifted
  rw [hA, hB, hs j, hg j, Ideal.exp_coe, Ideal.div_coe hpos.ne', Ideal.div_coe (mul_pos hpos hm).ne', one_mul,
    ← EReal.coe_mul, ← EReal.coe_mul]
  congr 1
  field_simp

end Cert.Row
-- ==== Proof.Block.lean ====
module

public import proofs.«01_k».proof.Proof.Gen.KernelIdeal.Skeleton
public import proofs.«01_k».proof.Proof.Softmax
public import Idealize.ShloMosaic.Lib.Pointwise

/-! What one grid point of the kernel computes from its blocks: the plain softmax of each row's logits, over three ranges of
embeddings. -/

@[expose] public section
set_option maxRecDepth 16384
noncomputable section
open Idealize.ShloMosaic Idealize.ShloMosaic.TcCoe Idealize.SL.Sem
namespace Cert.KernelIdeal.Block
open Cert.KernelIdeal Cert.KernelIdeal.Gen Cert.Row

variable (E : FVec Ideal S3072x256 .f32) (X : FVec Ideal S512x2048 .f32) (W : FVec Ideal S2048x256 .f32) (b : FVec Ideal S1x256 .f32)

/-- One logit of the block. -/
theorem logits_at (r : Fin 512) (n : Fin 3072) :
    k0_pay2 (F := Ideal) E X W b (ix2 r n)
      = logit (fun k => X (ix2 r k)) (fun k d => W (ix2 k d)) (fun d => b (ix2 0 d)) (fun d => E (ix2 n d)) := by
  unfold logit proj unitEmb leastNorm
  pointwise [k0_pay2]

/-- The row of one token's 1024 logits against the embeddings from `o` on. -/
abbrev logitRow (o : Nat) (ho : o + 1024 ≤ 3072) (r : Fin 512) (j : Fin 1024) : EReal :=
  logit (fun k => X (ix2 r k)) (fun k d => W (ix2 k d)) (fun d => b (ix2 0 d)) (fun d => E (ix2 ⟨o + j.val, by omega⟩ d))

/-- The first store: the plain softmax of the logits 0 to 1023. -/
theorem first_at (r : Fin 512) (n : Fin 1024) :
    k0_pay3 (F := Ideal) E X W b (ix2 r n) = plain (logitRow E X W b 0 (by omega) r) n := by
  have h : ∀ j : Fin 1024, logitRow E X W b 0 (by omega) r j = k0_pay2 (F := Ideal) E X W b (ix2 r ⟨j.val, by omega⟩) := fun j => by
    rw [logits_at]
    simp only [logitRow, Nat.zero_add]
  unfold plain
  simp only [h]
  pointwise [k0_pay3]

/-- The second store: the plain softmax of the logits 1024 to 2047. -/
theorem second_at (r : Fin 512) (n : Fin 1024) :
    k0_pay4 (F := Ideal) E X W b (ix2 r n) = plain (logitRow E X W b 1024 (by omega) r) n := by
  have h : ∀ j : Fin 1024, logitRow E X W b 1024 (by omega) r j = k0_pay2 (F := Ideal) E X W b (ix2 r ⟨1024 + j.val, by omega⟩) :=
    fun j => (logits_at E X W b r _).symm
  unfold plain
  simp only [h]
  pointwise [k0_pay4]

/-- The third store: the plain softmax of the logits 2048 to 3071. -/
theorem third_at (r : Fin 512) (n : Fin 1024) :
    k0_pay1 (F := Ideal) (k0_pay2 (F := Ideal) E X W b) (ix2 r n) = plain (logitRow E X W b 2048 (by omega) r) n := by
  have h : ∀ j : Fin 1024, logitRow E X W b 2048 (by omega) r j = k0_pay2 (F := Ideal) E X W b (ix2 r ⟨2048 + j.val, by omega⟩) :=
    fun j => (logits_at E X W b r _).symm
  unfold plain
  simp only [h]
  pointwise [k0_pay1]

end Cert.KernelIdeal.Block
-- ==== Proof.Array.lean ====
module

public import proofs.«01_k».proof.Proof.Gen.KernelIdeal.Frame
public import proofs.«01_k».proof.Proof.Block
public import Idealize.ShloMosaic.Lib.Pipeline.ValueKit
public import Idealize.ShloMosaic.Lib.Pointwise

/-! What the kernel's three output arrays hold after the last grid point. -/

@[expose] public section
set_option maxRecDepth 16384
noncomputable section
open Idealize.ShloMosaic Idealize.ShloMosaic.TcCoe Idealize.SL.Sem
open Idealize.ShloMosaic.Pipeline (Dat)
namespace Cert.KernelIdeal.Array
open Cert.KernelIdeal Cert.KernelIdeal.Gen Cert.KernelIdeal.Block Cert.Row

variable (m : (ℓ : Loc nD τ sig) → Buf (Elt Ideal) ℓ) (c : Dev nD)

/-- The blocks of grid point `t`: rows `512 t` on of the tokens and of the three results, everything of the other inputs. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The array of all rows' plain softmax over the 1024 embeddings from `o` on. -/
def rows (o : Nat) (ho : o + 1024 ≤ 3072) (X : FVec Ideal S4096x2048 .f32) (W : FVec Ideal S2048x256 .f32)
    (b : FVec Ideal S1x256 .f32) (E : FVec Ideal S3072x256 .f32) : FVec Ideal S4096x1024 .f32 := fun i =>
  plain (fun j : Fin 1024 => logit (fun k => X (ix2 (i 0) k)) (fun k d => W (ix2 k d)) (fun d => b (ix2 0 d))
    (fun d => E (ix2 ⟨o + j.val, by omega⟩ d))) (i 1)

/-- The first output array. -/
theorem final4 : (dats m 0 c).arrAt 4 (cfgs 0).N
    = rows 0 (by omega) (V m c main_v0) (V m c main_arg2) (V m c main_v1) (V m c main_v2) := by
  refine (dats m 0 c).arrAt_eq_of_covers 4 _ (by decide +kernel) fun t _ y => ?_
  blk_simp
  rw [after0_4]
  frame_out
  idx_vars y
  rw [first_at]
  simp only [rows, plain, logitRow, logit, proj, unitEmb]
  blk_point [iblk, idx t]

/-- The second output array. -/
theorem final5 : (dats m 0 c).arrAt 5 (cfgs 0).N
    = rows 1024 (by omega) (V m c main_v0) (V m c main_arg2) (V m c main_v1) (V m c main_v2) := by
  refine (dats m 0 c).arrAt_eq_of_covers 5 _ (by decide +kernel) fun t _ y => ?_
  blk_simp
  rw [after0_5]
  frame_out
  idx_vars y
  rw [second_at]
  simp only [rows, plain, logitRow, logit, proj, unitEmb]
  blk_point [iblk, idx t]

/-- The third output array. -/
theorem final6 : (dats m 0 c).arrAt 6 (cfgs 0).N
    = rows 2048 (by omega) (V m c main_v0) (V m c main_arg2) (V m c main_v1) (V m c main_v2) := by
  refine (dats m 0 c).arrAt_eq_of_covers 6 _ (by decide +kernel) fun t _ y => ?_
  blk_simp
  rw [after0_6]
  frame_out
  idx_vars y
  rw [third_at]
  simp only [rows, plain, logitRow, logit, proj, unitEmb]
  blk_point [iblk, idx t]

end Cert.KernelIdeal.Array
-- ==== Proof.Run.lean ====
module

public import proofs.«01_k».proof.Proof.Array
public import Idealize.ShloMosaic.Lib.Claim

/-! The kernel's whole run: its results in terms of its arguments. -/

@[expose] public section
set_option maxRecDepth 16384
noncomputable section
open Idealize.ShloMosaic Idealize.ShloMosaic.TcCoe Idealize.SL.Sem
open Idealize.ShloMosaic.Pipeline (Dat)
namespace Cert.KernelIdeal.Result
open Cert.KernelIdeal Cert.KernelIdeal.Gen Cert.KernelIdeal.Array Cert.Row

variable (m : (ℓ : Loc nD τ sig) → Buf (Elt Ideal) ℓ) (ρ : Dev nD → PrngReg) (c : Dev nD)

/-- A result: the rows of an output array, regrouped by batch. -/
def resultOf (o : Nat) (ho : o + 1024 ≤ 3072) : FVec Ideal S2x2048x1024 .f32 :=
  shapeCast S2x2048x1024 (rows o ho (V m c main_v0) (V m c main_arg2) (V m c main_v1) (V m c main_v2)) shapeCasts_S4096x1024_S2x2048x1024

/-- After the region the first output array is regrouped by batch, whatever it holds. -/
theorem tail4 (σ : Valuation τ sig (Elt Ideal)) : StableHlo.after (List.flatten [hostOps1]) σ (Proc.devRef .tc main_v4)
    = shapeCast S2x2048x1024 (σ (Proc.devRef .tc main_v3_0) : FVec Ideal S4096x1024 .f32) shapeCasts_S4096x1024_S2x2048x1024 := by
  simp only [List.flatten_cons, List.flatten_nil, List.append_nil, hostOps1]
  after_results_simp
  rfl

/-- After the region the second output array is regrouped by batch, whatever it holds. -/
theorem tail5 (σ : Valuation τ sig (Elt Ideal)) : StableHlo.after (List.flatten [hostOps1]) σ (Proc.devRef .tc main_v5)
    = shapeCast S2x2048x1024 (σ (Proc.devRef .tc main_v3_1) : FVec Ideal S4096x1024 .f32) shapeCasts_S4096x1024_S2x2048x1024 := by
  simp only [List.flatten_cons, List.flatten_nil, List.append_nil, hostOps1]
  after_results_simp
  rfl

/-- After the region the third output array is regrouped by batch, whatever it holds. -/
theorem tail6 (σ : Valuation τ sig (Elt Ideal)) : StableHlo.after (List.flatten [hostOps1]) σ (Proc.devRef .tc main_v6)
    = shapeCast S2x2048x1024 (σ (Proc.devRef .tc main_v3_2) : FVec Ideal S4096x1024 .f32) shapeCasts_S4096x1024_S2x2048x1024 := by
  simp only [List.flatten_cons, List.flatten_nil, List.append_nil, hostOps1]
  after_results_simp
  rfl

/-- Before the region the tokens of both batches are put in one list. -/
theorem tokens_eq : V m c main_v0 = shapeCast S4096x2048 (m ((c : Thread nD τ).loc main_arg0) : FVec Ideal S2x2048x2048 .f32)
    shapeCasts_S2x2048x2048_S4096x2048 := by
  show StableHlo.after (List.flatten [hostOps0]) _ (Proc.devRef .tc main_v0) = _
  simp only [List.flatten_cons, List.flatten_nil, List.append_nil, hostOps0]
  after_results_simp
  rfl

/-- Before the region the bias is made a row. -/
theorem bias_eq : V m c main_v1 = shapeCast S1x256 (m ((c : Thread nD τ).loc main_arg3) : FVec Ideal S256 .f32)
    shapeCasts_S256_S1x256 := by
  show StableHlo.after (List.flatten [hostOps0]) _ (Proc.devRef .tc main_v1) = _
  simp only [List.flatten_cons, List.flatten_nil, List.append_nil, hostOps0]
  after_results_simp
  rfl

/-- Before the region the first 3072 embeddings are cut out. -/
theorem embeddings_eq : V m c main_v2 = extractStridedSlice S3072x256 ![0, 0]
    (m ((c : Thread nD τ).loc main_arg4) : FVec Ideal S4096x256 .f32) slices_S4096x256_S3072x256_0_0 := by
  show StableHlo.after (List.flatten [hostOps0]) _ (Proc.devRef .tc main_v2) = _
  simp only [List.flatten_cons, List.flatten_nil, List.append_nil, hostOps0]
  after_results_simp

/-- Row `r` of the list of tokens is token `r % 2048` of batch `r / 2048`. -/
theorem regrouped_at (X : FVec Ideal S2x2048x2048 .f32) (r : Fin 4096) (k : Fin 2048) :
    shapeCast S4096x2048 X shapeCasts_S2x2048x2048_S4096x2048 (ix2 r k)
      = X (ix3 ⟨r.val / 2048, by omega⟩ ⟨r.val % 2048, by omega⟩ k) := by
  pointwise

/-- The tokens as the kernel finds them: row `2048 p + s` is token `s` of batch `p`. -/
theorem tokens_at (p : Fin 2) (s : Fin 2048) (k : Fin 2048) :
    (V m c main_v0 : FVec Ideal S4096x2048 .f32) (ix2 ⟨p.val * 2048 + s.val, by omega⟩ k)
      = (m ((c : Thread nD τ).loc main_arg0) : FVec Ideal S2x2048x2048 .f32) (ix3 p s k) := by
  rw [tokens_eq, regrouped_at]
  have h0 : (p.val * 2048 + s.val) / 2048 = p.val := by omega
  have h1 : (p.val * 2048 + s.val) % 2048 = s.val := by omega
  simp only [h0, h1]

/-- The bias as the kernel finds it. -/
theorem bias_at (d : Fin 256) :
    (V m c main_v1 : FVec Ideal S1x256 .f32) (ix2 0 d) = (m ((c : Thread nD τ).loc main_arg3) : FVec Ideal S256 .f32) (ix1 d) := by
  rw [bias_eq]
  pointwise

/-- The embeddings as the kernel finds them: the first 3072. -/
theorem embeddings_at (n : Fin 3072) (d : Fin 256) :
    (V m c main_v2 : FVec Ideal S3072x256 .f32) (ix2 n d)
      = (m ((c : Thread nD τ).loc main_arg4) : FVec Ideal S4096x256 .f32) (ix2 ⟨n.val, by omega⟩ d) := by
  rw [embeddings_eq]
  generalize (m ((c : Thread nD τ).loc main_arg4) : FVec Ideal S4096x256 .f32) = E
  pointwise

/-- Equal tokens, biases and embeddings have equal logits. -/
theorem logit_congr {x x' : Fin 2048 → EReal} {W : Fin 2048 → Fin 256 → EReal} {b b' e e' : Fin 256 → EReal}
    (hx : ∀ k, x k = x' k) (hb : ∀ d, b d = b' d) (he : ∀ d, e d = e' d) : logit x W b e = logit x' W b' e' := by
  rw [funext hx, funext hb, funext he]

/-- One entry of a result, of the kernel's arguments. -/
theorem result_at (o : Nat) (ho : o + 1024 ≤ 3072) (p : Fin 2) (s : Fin 2048) (n : Fin 1024) :
    resultOf m c o ho (ix3 p s n) = plain (fun j : Fin 1024 => logit (fun k => (m ((c : Thread nD τ).loc main_arg0) : FVec Ideal S2x2048x2048 .f32) (ix3 p s k))
      (fun k d => (m ((c : Thread nD τ).loc main_arg2) : FVec Ideal S2048x256 .f32) (ix2 k d))
      (fun d => (m ((c : Thread nD τ).loc main_arg3) : FVec Ideal S256 .f32) (ix1 d))
      (fun d => (m ((c : Thread nD τ).loc main_arg4) : FVec Ideal S4096x256 .f32) (ix2 ⟨o + j.val, by omega⟩ d))) n := by
  have h : resultOf m c o ho (ix3 p s n) = rows o ho (V m c main_v0) (V m c main_arg2) (V m c main_v1) (V m c main_v2)
      (ix2 ⟨p.val * 2048 + s.val, by omega⟩ n) := by
    generalize hR : rows o ho (V m c main_v0) (V m c main_arg2) (V m c main_v1) (V m c main_v2) = R
    unfold resultOf
    rw [hR]
    pointwise
  rw [h, V_main_arg2]
  exact congrArg (fun l => plain l n) (funext fun j => logit_congr (tokens_at m c p s) (bias_at m c)
    (embeddings_at m c ⟨o + j.val, by omega⟩))

/-- The arrays of the windows are distinct. -/
theorem arrays_inj : Function.Injective (Pipeline.arrRef (cfgs 0).spec) := by
  decide +kernel

/-- What the run leaves in the first result. -/
theorem left4 : Pipeline.afterTail₀ cfgs (dats m) 0 (V0 m) [hostOps1] c main_v4 = resultOf m c 0 (by omega) := by
  unfold Pipeline.afterTail₀
  refine (tail4 _).trans (congrArg (fun A : FVec Ideal S4096x1024 .f32 => shapeCast S2x2048x1024 A shapeCasts_S4096x1024_S2x2048x1024) ?_)
  exact (Pipeline.withArrays_arr (cfgs 0).spec arrays_inj c (V0 m c) (fun w => (dats m 0 c).arrAt w (cfgs 0).N) 4).trans (final4 m c)

/-- What the run leaves in the second result. -/
theorem left5 : Pipeline.afterTail₀ cfgs (dats m) 0 (V0 m) [hostOps1] c main_v5 = resultOf m c 1024 (by omega) := by
  unfold Pipeline.afterTail₀
  refine (tail5 _).trans (congrArg (fun A : FVec Ideal S4096x1024 .f32 => shapeCast S2x2048x1024 A shapeCasts_S4096x1024_S2x2048x1024) ?_)
  exact (Pipeline.withArrays_arr (cfgs 0).spec arrays_inj c (V0 m c) (fun w => (dats m 0 c).arrAt w (cfgs 0).N) 5).trans (final5 m c)

/-- What the run leaves in the third result. -/
theorem left6 : Pipeline.afterTail₀ cfgs (dats m) 0 (V0 m) [hostOps1] c main_v6 = resultOf m c 2048 (by omega) := by
  unfold Pipeline.afterTail₀
  refine (tail6 _).trans (congrArg (fun A : FVec Ideal S4096x1024 .f32 => shapeCast S2x2048x1024 A shapeCasts_S4096x1024_S2x2048x1024) ?_)
  exact (Pipeline.withArrays_arr (cfgs 0).spec arrays_inj c (V0 m c) (fun w => (dats m 0 c).arrAt w (cfgs 0).N) 6).trans (final6 m c)

/-- The kernel's run: each result is its rows' plain softmax, the arguments end unchanged. -/
theorem run : θ_run defs (onTc (τ := τ) (main (F := Ideal))) ⟨m, fun _ => 0, ρ⟩ fun r => ∀ c : Dev nD,
      r.2.mem ((c.tc : Thread nD τ).loc main_v4) = resultOf m c 0 (by omega)
      ∧ r.2.mem ((c.tc : Thread nD τ).loc main_v5) = resultOf m c 1024 (by omega)
      ∧ r.2.mem ((c.tc : Thread nD τ).loc main_v6) = resultOf m c 2048 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v4 (Pipeline.mem_restRefs_of main_v4 (by decide) (by decide))).trans (left4 m c),
      ((h c).2 main_v5 (Pipeline.mem_restRefs_of main_v5 (by decide) (by decide))).trans (left5 m c),
      ((h c).2 main_v6 (Pipeline.mem_restRefs_of main_v6 (by decide) (by decide))).trans (left6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result
-- ==== Proof.Reference.lean ====
module

public import proofs.«01_k».proof.Proof.Gen.ReferenceIdeal.Run
public import proofs.«01_k».proof.Proof.Softmax
public import Idealize.ShloMosaic.Lib.Pointwise

/-! What the reference computes: each result's entry is the shifted softmax of its 1024 logits. -/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Row

/-- The reference's projection of every token. -/
def projOf (X : FVec Ideal S2x2048x2048 .f32) (W : FVec Ideal S2048x256 .f32) (b : FVec Ideal S256 .f32) : FVec Ideal S2x2048x256 .f32 :=
  addf (Host.dotGeneral dot_S2x2048x2048_S2048x256_S2x2048x256_2_0_01_1_n_n none X W) (broadcastInDim S2x2048x256 ![0, 1, 2] bcast_S1x1x256_S2x2048x256_0_1_2 (broadcastInDim S1x1x256 ![2] bcast_S256_S1x1x256_2 b))

/-- The reference's unit embeddings. -/
def unitOf (E : FVec Ideal S4096x256 .f32) : FVec Ideal S4096x256 .f32 :=
  Host.divf E (broadcastInDim S4096x256 ![0, 1] bcast_S4096x1_S4096x256_0_1 (maximumf (Host.sqrt (broadcastInDim S4096x1 ![0] bcast_S4096_S4096x1_0 (Host.reduceAdd (mulf E E) (constant S_ .f32 0x00000000#32) reducesTo_S4096x256_S4096_d1 h_S_))) (broadcastInDim S4096x1 ![] bcast_S_S4096x1 (constant S_ .f32 0x2B8CBCCC#32))))

/-- The reference's array of all 4096 logits: every projected token against every unit embedding. -/
def allLogits (P : FVec Ideal S2x2048x256 .f32) (U : FVec Ideal S4096x256 .f32) : FVec Ideal S2x2048x4096 .f32 :=
  Host.dotGeneral dot_S2x2048x256_S4096x256_S2x2048x4096_2_1_01_0_n_n none P U

/-- The array of row maxima. -/
def maxOf (L : FVec Ideal S2x2048x1024 .f32) : FVec Ideal S2x2048 .f32 :=
  Host.reduce FloatOps.maximumf L (constant S_ .f32 0xFF800000#32) reducesTo_S2x2048x1024_S2x2048_d2 h_S_

/-- The exponentials of the logits less a row's `M`. -/
def expOf (L : FVec Ideal S2x2048x1024 .f32) (M : FVec Ideal S2x2048 .f32) : FVec Ideal S2x2048x1024 .f32 :=
  Host.exp (subf L (broadcastInDim S2x2048x1024 ![0, 1, 2] bcast_S2x2048x1_S2x2048x1024_0_1_2 (broadcastInDim S2x2048x1 ![0, 1] bcast_S2x2048_S2x2048x1_0_1 (maximumf (broadcastInDim S2x2048 ![] bcast_S_S2x2048 (constant S_ .f32 0xFF800000#32)) M))))

/-- An array divided by its row sums. -/
def quotOf (A : FVec Ideal S2x2048x1024 .f32) : FVec Ideal S2x2048x1024 .f32 :=
  Host.divf A (broadcastInDim S2x2048x1024 ![0, 1, 2] bcast_S2x2048x1_S2x2048x1024_0_1_2 (broadcastInDim S2x2048x1 ![0, 1] bcast_S2x2048_S2x2048x1_0_1 (Host.reduceAdd A (constant S_ .f32 0x00000000#32) reducesTo_S2x2048x1024_S2x2048_d2 h_S_)))

/-- The reference's softmax over the last axis of an array of 1024 logits per token. -/
def softmaxOf (L : FVec Ideal S2x2048x1024 .f32) : FVec Ideal S2x2048x1024 .f32 :=
  quotOf (expOf L (maxOf L))

/-- One entry of the projection. -/
theorem projOf_at (X : FVec Ideal S2x2048x2048 .f32) (W : FVec Ideal S2048x256 .f32) (b : FVec Ideal S256 .f32) (p : Fin 2)
    (s : Fin 2048) (d : Fin 256) :
    projOf X W b (ix3 p s d) = proj (fun k => X (ix3 p s k)) (fun k d => W (ix2 k d)) (fun d => b (ix1 d)) d := by
  unfold proj
  pointwise [projOf]

/-- One entry of the unit embeddings. -/
theorem unitOf_at (E : FVec Ideal S4096x256 .f32) (n : Fin 4096) (d : Fin 256) :
    unitOf E (ix2 n d) = unitEmb (fun k => E (ix2 n k)) d := by
  unfold unitEmb leastNorm
  pointwise [unitOf]

/-- One logit is the product of a projected token and a unit embedding. -/
theorem allLogits_at (P : FVec Ideal S2x2048x256 .f32) (U : FVec Ideal S4096x256 .f32) (p : Fin 2) (s : Fin 2048) (n : Fin 4096) :
    allLogits P U (ix3 p s n) = ∑ d, P (ix3 p s d) * U (ix2 n d) := by
  pointwise [allLogits]

/-- One logit of the reference, of its arguments. -/
theorem logits_at (X : FVec Ideal S2x2048x2048 .f32) (W : FVec Ideal S2048x256 .f32) (b : FVec Ideal S256 .f32)
    (E : FVec Ideal S4096x256 .f32) (p : Fin 2) (s : Fin 2048) (n : Fin 4096) :
    allLogits (projOf X W b) (unitOf E) (ix3 p s n)
      = logit (fun k => X (ix3 p s k)) (fun k d => W (ix2 k d)) (fun d => b (ix1 d)) (fun d => E (ix2 n d)) := by
  rw [allLogits_at]
  exact Finset.sum_congr rfl fun d _ => by rw [projOf_at, unitOf_at]

/-- One row maximum. -/
theorem maxOf_at (L : FVec Ideal S2x2048x1024 .f32) (p : Fin 2) (s : Fin 2048) :
    maxOf L (ix2 p s) = Finset.fold max maxStart (fun k => L (ix3 p s k)) Finset.univ := by
  unfold maxStart
  pointwise [maxOf]

/-- One exponential. -/
theorem expOf_at (L : FVec Ideal S2x2048x1024 .f32) (M : FVec Ideal S2x2048 .f32) (p : Fin 2) (s : Fin 2048) (n : Fin 1024) :
    expOf L M (ix3 p s n) = Ideal.exp (L (ix3 p s n) - max maxStart (M (ix2 p s))) := by
  unfold maxStart
  pointwise [expOf]

/-- One quotient. -/
theorem quotOf_at (A : FVec Ideal S2x2048x1024 .f32) (p : Fin 2) (s : Fin 2048) (n : Fin 1024) :
    quotOf A (ix3 p s n) = Ideal.div (A (ix3 p s n)) (∑ k, A (ix3 p s k)) := by
  pointwise [quotOf]

/-- One entry of the reference's softmax is the shifted softmax of the token's row. -/
theorem softmaxOf_at (L : FVec Ideal S2x2048x1024 .f32) (p : Fin 2) (s : Fin 2048) (n : Fin 1024) :
    softmaxOf L (ix3 p s n) = shifted (fun k => L (ix3 p s k)) n := by
  have he : ∀ k, expOf L (maxOf L) (ix3 p s k) = Ideal.exp (L (ix3 p s k) - rowMax (fun k => L (ix3 p s k))) := fun k => by
    rw [expOf_at, maxOf_at, rowMax]
  unfold softmaxOf shifted
  rw [quotOf_at, he n]
  exact congrArg _ (Finset.sum_congr rfl fun k _ => he k)

/-- One entry of the reference's softmax over 1024 of the logits, those from `o` on. -/
theorem result_at (X : FVec Ideal S2x2048x2048 .f32) (W : FVec Ideal S2048x256 .f32) (b : FVec Ideal S256 .f32)
    (E : FVec Ideal S4096x256 .f32) (o : Nat) (ho : o + 1024 ≤ 4096) (h : S2x2048x4096.Slices ![0, 0, o] S2x2048x1024)
    (p : Fin 2) (s : Fin 2048) (n : Fin 1024) :
    softmaxOf (extractStridedSlice S2x2048x1024 ![0, 0, o] (allLogits (projOf X W b) (unitOf E)) h) (ix3 p s n)
      = shifted (fun j : Fin 1024 => logit (fun k => X (ix3 p s k)) (fun k d => W (ix2 k d)) (fun d => b (ix1 d))
          (fun d => E (ix2 ⟨o + j.val, by omega⟩ d))) n := by
  rw [softmaxOf_at]
  congr 1
  funext j
  rw [← logits_at]
  pointwise

variable (m : (ℓ : Loc nD τ sig) → Buf (Elt Ideal) ℓ) (c : Dev nD)

/-- The logits of the reference's own arguments on device `c`. -/
abbrev logitsOf : FVec Ideal S2x2048x4096 .f32 :=
  allLogits (projOf (m ((c.tc : Thread nD τ).loc main_arg0)) (m ((c.tc : Thread nD τ).loc main_arg2))
    (m ((c.tc : Thread nD τ).loc main_arg3))) (unitOf (m ((c.tc : Thread nD τ).loc main_arg4)))

/-- The first result is the softmax of the logits 0 to 1023. -/
theorem out0_eq : res_main_v27 m c = softmaxOf (extractStridedSlice S2x2048x1024 ![0, 0, 0] (logitsOf m c) slices_S2x2048x4096_S2x2048x1024_0_0_0) := rfl

/-- The second result is the softmax of the logits 1024 to 2047. -/
theorem out1_eq : res_main_v38 m c = softmaxOf (extractStridedSlice S2x2048x1024 ![0, 0, 1024] (logitsOf m c) slices_S2x2048x4096_S2x2048x1024_0_0_1024) := rfl

/-- The third result is the second's softmax again. -/
theorem out2_eq : res_main_v49 m c = softmaxOf (extractStridedSlice S2x2048x1024 ![0, 0, 1024] (logitsOf m c) slices_S2x2048x4096_S2x2048x1024_0_0_1024) := rfl

/-- The fourth result is the softmax of the logits 2048 to 3071. -/
theorem out3_eq : res_main_v60 m c = softmaxOf (extractStridedSlice S2x2048x1024 ![0, 0, 2048] (logitsOf m c) slices_S2x2048x4096_S2x2048x1024_0_0_2048) := rfl

end Cert.ReferenceIdeal.Value
-- ==== Proof.Precondition.lean ====
module

public import proofs.«01_k».proof.Proof.Gen.Pre_finite_projection
public import proofs.«01_k».proof.Proof.Softmax
public import Idealize.ShloMosaic.Lib.ReduceAll
public import Idealize.ShloMosaic.Lib.Pointwise

/-! What the precondition `finite_projection` says of the arrays: every entry of the tokens, the weights and the bias is a
real number. -/

@[expose] public section
noncomputable section
open Idealize.ShloMosaic
namespace Cert.Pre_finite_projection.Gen
open Cert.Pre_finite_projection Cert.Row

/-- An absolute value below plus infinity is that of a real number. -/
theorem real_of_abs_lt {x : EReal} (h : max x (-x) < ⊤) : IsReal x := by
  induction x using EReal.rec with
  | bot => simp at h
  | coe r => exact ⟨r, rfl⟩
  | top => simp at h

/-- The bound the absolute values are compared with is plus infinity. -/
theorem top_eq : Ideal.ofBits .f32 0x7F800000#32 = ⊤ := by
  simp [Ideal.ofBits, Ideal.ieee]

/-- One array's test: the conjunction over all entries of `|v| < inf` is true only if every entry is a real number. -/
theorem real_of_test {s : Shape} {axes : List (Fin s.rank)} (v : FVec Ideal s .f32) (hb : S_.BroadcastsInDim s (![] : Fin 0 → Fin s.rank))
    (h : s.ReducesTo axes S_) (hu : 0 < S_.numel) (j : S_.Idx)
    (e : Host.reduce IntOp.andi (cmpf .olt (Host.absf v) (broadcastInDim s ![] hb (constant (F := Ideal) S_ .f32 0x7F800000#32)))
      (constantI S_ 1 1#1) h hu j = 1#1) (i : s.Idx) : IsReal (v i) := by
  have ht := Host.reduce_andi_all _ _ h hu j e i
  have hc : BitVec.ofBool (decide (max (v i) (-(v i)) < Ideal.ofBits .f32 0x7F800000#32)) = 1#1 := ht
  rw [top_eq] at hc
  refine real_of_abs_lt ?_
  by_contra hn
  rw [decide_eq_false hn] at hc
  exact absurd hc (by decide)

/-- A conjunction of two bits is true only if both are. -/
theorem both (a b : BitVec 1) (h : IntOp.andi a b = 1#1) : a = 1#1 ∧ b = 1#1 := by
  revert a b
  decide

/-- The precondition's three tests, read back. -/
theorem real_of_pre (X : FVec Ideal S2x2048x2048 .f32) (I : FVec Ideal S2x2048 .f32) (W : FVec Ideal S2048x256 .f32)
    (b : FVec Ideal S256 .f32) (E : FVec Ideal S4096x256 .f32) (h : fn (F := Ideal) X I W b E = fun _ => 1#1) :
    (∀ i, IsReal (X i)) ∧ (∀ i, IsReal (W i)) ∧ (∀ i, IsReal (b i)) := by
  have h0 := congrFun h ix0
  unfold fn at h0
  obtain ⟨hXW, hb⟩ := both _ _ h0
  obtain ⟨hX, hW⟩ := both _ _ hXW
  exact ⟨real_of_test X _ _ _ _ hX, real_of_test W _ _ _ _ hW, real_of_test b _ _ _ _ hb⟩

end Cert.Pre_finite_projection.Gen
-- ==== Proof.Equation.lean ====
module

public import proofs.«01_k».proof.Proof.Run
public import proofs.«01_k».proof.Proof.Reference
public import proofs.«01_k».proof.Proof.Precondition

/-! The equation: on arguments whose projection has finite operands, the kernel's results are the reference's. -/

@[expose] public section
noncomputable section
open Idealize.ShloMosaic Idealize.ShloMosaic.TcCoe Idealize.SL.Sem
namespace Cert.Equation
open Cert.Row

/-- A result of the kernel is the reference's softmax over the same 1024 logits. -/
theorem result_eq (m : (ℓ : Loc Cert.KernelIdeal.nD Cert.KernelIdeal.τ Cert.KernelIdeal.sig) → Buf (Elt Ideal) ℓ)
    (c : Dev Cert.KernelIdeal.nD) (X : FVec Ideal Cert.KernelIdeal.S2x2048x2048 .f32) (W : FVec Ideal Cert.KernelIdeal.S2048x256 .f32)
    (b : FVec Ideal Cert.KernelIdeal.S256 .f32) (E : FVec Ideal Cert.KernelIdeal.S4096x256 .f32)
    (h0 : m ((c : Thread Cert.KernelIdeal.nD Cert.KernelIdeal.τ).loc Cert.KernelIdeal.main_arg0) = X)
    (h2 : m ((c : Thread Cert.KernelIdeal.nD Cert.KernelIdeal.τ).loc Cert.KernelIdeal.main_arg2) = W)
    (h3 : m ((c : Thread Cert.KernelIdeal.nD Cert.KernelIdeal.τ).loc Cert.KernelIdeal.main_arg3) = b)
    (h4 : m ((c : Thread Cert.KernelIdeal.nD Cert.KernelIdeal.τ).loc Cert.KernelIdeal.main_arg4) = E)
    (hX : ∀ i, IsReal (X i)) (hW : ∀ i, IsReal (W i)) (hb : ∀ i, IsReal (b i)) (o : Nat) (ho : o + 1024 ≤ 3072)
    (h : Cert.ReferenceIdeal.S2x2048x4096.Slices ![0, 0, o] Cert.ReferenceIdeal.S2x2048x1024) :
    Cert.KernelIdeal.Result.resultOf m c o ho
      = Cert.ReferenceIdeal.Value.softmaxOf (extractStridedSlice Cert.ReferenceIdeal.S2x2048x1024 ![0, 0, o]
          (Cert.ReferenceIdeal.Value.allLogits (Cert.ReferenceIdeal.Value.projOf X W b) (Cert.ReferenceIdeal.Value.unitOf E)) h) := by
  funext i
  idx_vars i
  rw [Cert.KernelIdeal.Result.result_at, h0, h2, h3, h4, Cert.ReferenceIdeal.Value.result_at X W b E o (by omega) h]
  exact plain_eq_shifted _ (fun j => logit_fin (fun k => hX _) (fun k d => hW _) (fun d => hb _) _) _

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_projection
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel at machine floats ends, with its arguments unchanged and every counter at zero. -/
theorem frame_p : Cert.quiescent_Kernel := fun m ρ _ => Cert.Kernel.Gen.frame m ρ

/-- The kernel over the extended reals ends, with its arguments unchanged and every counter at zero. -/
theorem frame_k : Cert.quiescent_KernelIdeal := fun m ρ _ => Cert.KernelIdeal.Gen.frame m ρ

/-- The same of the memories that satisfy the precondition. -/
theorem frame_k_pre : Cert.quiescent_KernelIdeal_pre_finite_projection := fun m ρ _ => Cert.KernelIdeal.Gen.frame m ρ

/-- The reference ends from every memory, with its arguments unchanged and every counter at zero (it declares none). -/
theorem reference_ends (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run m ρ)

/-- The reference's frame. -/
theorem frame_r : Cert.quiescent_ReferenceIdeal := fun m ρ _ => reference_ends m ρ

/-- The reference's frame, of the memories that satisfy the precondition. -/
theorem frame_r_pre : Cert.quiescent_ReferenceIdeal_pre_finite_projection := fun m ρ _ => reference_ends m ρ

/-- On arguments whose projection has finite operands the kernel's four results are the reference's. -/
theorem algebraic : Cert.algebraic_KernelIdeal_ReferenceIdeal_pre_finite_projection := by
  intro m ρ m' ρ' hpre hagree
  have e : ∀ (c : Dev Cert.KernelIdeal.nD) (o : Nat) (ho : o + 1024 ≤ 3072)
      (h : Cert.ReferenceIdeal.S2x2048x4096.Slices ![0, 0, o] Cert.ReferenceIdeal.S2x2048x1024),
      Cert.ReferenceIdeal.Value.softmaxOf (extractStridedSlice Cert.ReferenceIdeal.S2x2048x1024 ![0, 0, o]
        (Cert.ReferenceIdeal.Value.logitsOf m' c) h) = Cert.KernelIdeal.Result.resultOf m c o ho := fun c o ho h => by
    obtain ⟨hX, hW, hb⟩ := Cert.Pre_finite_projection.Gen.real_of_pre _ _ _ _ _ (hpre c)
    obtain ⟨h0, _, h2, h3, h4⟩ := hagree c
    exact (Cert.Equation.result_eq m c _ _ _ _ h0.symm h2.symm h3.symm h4.symm (h0 ▸ hX) (h2 ▸ hW) (h3 ▸ hb) o ho h).symm
  refine ⟨fun c => Cert.KernelIdeal.Result.resultOf m c 0 (by omega), fun c => Cert.KernelIdeal.Result.resultOf m c 1024 (by omega),
    fun c => Cert.KernelIdeal.Result.resultOf m c 1024 (by omega), fun c => Cert.KernelIdeal.Result.resultOf m c 2048 (by omega), ?_, ?_⟩
  · exact (θ_run Cert.KernelIdeal.defs _ _).mono (fun _ h c => ⟨(h c).1, (h c).2.1, (h c).2.1, (h c).2.2⟩)
      (Cert.KernelIdeal.Result.run m ρ)
  · exact (θ_run Cert.ReferenceIdeal.defs _ _).mono (fun _ h c => ⟨
        (h c).1.trans ((Cert.ReferenceIdeal.Value.out0_eq m' c).trans (e c 0 _ _)),
        (h c).2.1.trans ((Cert.ReferenceIdeal.Value.out1_eq m' c).trans (e c 1024 _ _)),
        (h c).2.2.1.trans ((Cert.ReferenceIdeal.Value.out2_eq m' c).trans (e c 1024 _ _)),
        (h c).2.2.2.1.trans ((Cert.ReferenceIdeal.Value.out3_eq m' c).trans (e c 2048 _ _)),
        (h c).2.2.2.2⟩)
      (Cert.ReferenceIdeal.Value.run m' ρ')

/-- Everything the certificate claims. -/
theorem claim : Cert.Claim := ⟨Cert.Kernel.Gen.facts, Cert.KernelIdeal.Gen.facts, Cert.ReferenceIdeal.Gen.facts,
  Cert.Pre_finite_projection.Gen.facts, frame_p, frame_k, frame_k_pre, frame_r, frame_r_pre, trivial, algebraic⟩

end Cert.Proof

end
